-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_u_finite [hPre_u_finite : Cert.Pre_u_finite.Facts] (m : (ℓ : Loc Cert.KernelIdeal.nD Cert.KernelIdeal.τ Cert.KernelIdeal.sig) → Buf (Elt Ideal) ℓ) : Prop :=
  ∀ c : Dev Cert.KernelIdeal.nD,
    (Cert.Pre_u_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_u_finite [hPre_u_finite : Cert.Pre_u_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_u_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_u_finite [hKernelIdeal : Cert.KernelIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_u_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_u_finite [hReferenceIdeal : Cert.ReferenceIdeal.Facts] [hPre_u_finite : Cert.Pre_u_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_u_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_u_finite [hKernelIdeal : Cert.KernelIdeal.Facts] [hReferenceIdeal : Cert.ReferenceIdeal.Facts] [hPre_u_finite : Cert.Pre_u_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_u_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_u_finite : Cert.Pre_u_finite.Facts),
    quiescent_Kernel (hKernel := hKernel)
    ∧ quiescent_KernelIdeal (hKernelIdeal := hKernelIdeal)
    ∧ quiescent_KernelIdeal_pre_u_finite (hKernelIdeal := hKernelIdeal) (hPre_u_finite := hPre_u_finite)
    ∧ quiescent_ReferenceIdeal (hReferenceIdeal := hReferenceIdeal)
    ∧ quiescent_ReferenceIdeal_pre_u_finite (hReferenceIdeal := hReferenceIdeal) (hPre_u_finite := hPre_u_finite)
    ∧ preserves_Kernel_KernelIdeal
    ∧ algebraic_KernelIdeal_ReferenceIdeal_pre_u_finite (hKernelIdeal := hKernelIdeal) (hReferenceIdeal := hReferenceIdeal) (hPre_u_finite := hPre_u_finite)
-- ==== Pre_u_finite.lean ====
abbrev S32x2048x1024 : Shape := ⟨3, ![32, 2048, 1024]⟩
abbrev S1024x512 : Shape := ⟨2, ![1024, 512]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S32x2048x1024 .f32) (main_arg1 : FVec F S32x2048x1024 .f32) (main_arg2 : FVec F S1024x512 .f32) (main_arg3 : FVec F S512 .f32) : IVec S_ 1 :=
  let main_v0 : FVec F S512 .f32 := Host.absf main_arg3
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  main_v3
-- ==== Kernel.lean ====
abbrev S32x2048x1024 : Shape := ⟨3, ![32, 2048, 1024]⟩
abbrev S1024x512 : Shape := ⟨2, ![1024, 512]⟩
abbrev S512 : Shape := ⟨1, ![512]⟩
abbrev S1x512 : Shape := ⟨2, ![1, 512]⟩
abbrev S32x1x1024 : Shape := ⟨3, ![32, 1, 1024]⟩
abbrev S1x1024x1024 : Shape := ⟨3, ![1, 1024, 1024]⟩
abbrev S1x1x1024 : Shape := ⟨3, ![1, 1, 1024]⟩
abbrev S1x1 : Shape := ⟨2, ![1, 1]⟩
abbrev S1x1024 : Shape := ⟨2, ![1, 1024]⟩
abbrev S1024x1024 : Shape := ⟨2, ![1024, 1024]⟩
abbrev S1 : Shape := ⟨1, ![1]⟩
abbrev S32x1024 : Shape := ⟨2, ![32, 1024]⟩

abbrev nBuf : Space → Nat
  | .hbm => 7
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024x512, .f32⟩
  | .hbm, ⟨3, _⟩ => ⟨S512, .f32⟩
  | .hbm, ⟨4, _⟩ => ⟨S1x512, .f32⟩
  | .hbm, ⟨5, _⟩ => ⟨S32x1x1024, .f32⟩
  | .hbm, ⟨6, _⟩ => ⟨S32x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x512, .f32⟩
  | .local _ .vmem, ⟨5, _⟩ => ⟨S1x512, .f32⟩
  | .local _ .vmem, ⟨6, _⟩ => ⟨S1x1x1024, .f32⟩
  | .local _ .vmem, ⟨7, _⟩ => ⟨S1x1x1024, .f32⟩
  | .local _ .vmem, ⟨8, _⟩ => ⟨S1x1, .f32⟩
  | .local _ .vmem, ⟨9, _⟩ => ⟨S1x1, .f32⟩
  | .local _ .vmem, ⟨10, _⟩ => ⟨S1x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S32x2048x1024 : Shape := ⟨3, ![32, 2048, 1024]⟩
abbrev S1024x512 : Shape := ⟨2, ![1024, 512]⟩
abbrev S512 : Shape := ⟨1, ![512]⟩
abbrev S_ : Shape := ⟨0, ![]⟩
abbrev S32x2048 : Shape := ⟨2, ![32, 2048]⟩
abbrev S32x2048x512 : Shape := ⟨3, ![32, 2048, 512]⟩
abbrev S32 : Shape := ⟨1, ![32]⟩
abbrev S32x1 : Shape := ⟨2, ![32, 1]⟩
abbrev S32x1024 : Shape := ⟨2, ![32, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024x512, .f32⟩
  | .hbm, ⟨3, _⟩ => ⟨S512, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S32x2048, .f32⟩
  | .hbm, ⟨8, _⟩ => ⟨S32x2048x512, .f32⟩
  | .hbm, ⟨9, _⟩ => ⟨S32x2048x512, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .i1⟩
  | .hbm, ⟨14, _⟩ => ⟨S_, .f32⟩
  | .hbm, ⟨15, _⟩ => ⟨S32x2048, .f32⟩
  | .hbm, ⟨16, _⟩ => ⟨S32x2048, .f32⟩
  | .hbm, ⟨17, _⟩ => ⟨S_, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S32x2048, .f32⟩
  | .hbm, ⟨24, _⟩ => ⟨S32x2048, .f32⟩
  | .hbm, ⟨25, _⟩ => ⟨S32x2048, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S32x2048, .f32⟩
  | .hbm, ⟨30, _⟩ => ⟨S32x2048, .f32⟩
  | .hbm, ⟨31, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Blocks.lean ====
/-
  What the kernel's grid points read, entry by entry.

  Point `t` of the 64 points handles batch `t / 2` and its half `t % 2`. The masking input and the sequence are read by
  blocks of 1024 rows of one batch, the projection whole, and the score vector whole as a one-row matrix, which is what
  the host made of it before the launch.
-/
module

public import proofs.«01_k».proof.Proof.Gen.KernelIdeal.Frame
public import Idealize.ShloMosaic.Lib.ValueIdx
public import Idealize.ShloMosaic.Lib.ValueLayout
public import Idealize.ShloMosaic.Lib.Pipeline.Value
public import Idealize.ShloMosaic.Lib.StableHlo.Run

@[expose] public section

noncomputable section

namespace Cert.KernelIdeal.Blocks

open Idealize.ShloMosaic Idealize.ShloMosaic.TcCoe Idealize.ShloMosaic.ValueIdx
open Cert.KernelIdeal Cert.KernelIdeal.Gen

variable {F : FTy → Type} [FloatOps F]
variable (m : (ℓ : Loc nD τ sig) → Buf (Elt F) ℓ)

/-- The batch of a grid point. -/
theorem batch_val (t : Fin cfg0.N) : (grid0.coords t 0).val = t.val / 2 % 32 :=
  Pipeline.Grid.coords_val (G := grid0) t 0 (by decide) rfl

/-- The half of a grid point. -/
theorem half_val (t : Fin cfg0.N) : (grid0.coords t 1).val = t.val / 1 % 2 :=
  Pipeline.Grid.coords_val (G := grid0) t 1 (by decide) rfl

/-- A number below the word size survives the word. -/
theorem word_val {n k : Nat} (h : n = k) (hk : k < 64) : (BitVec.ofNat 32 n).toNat = k := by
  subst h
  rw [BitVec.toNat_ofNat]
  omega

/-- A point's batch and half as numbers. -/
theorem point_val (t : Fin cfg0.N) :
    (BitVec.ofNat 32 (grid0.coords t 0).val).toNat = t.val / 2 ∧ (BitVec.ofNat 32 (grid0.coords t 1).val).toNat = t.val % 2 := by
  have hN : t.val < 64 := lt_of_lt_of_eq t.isLt (show cfg0.N = 64 from N_0)
  exact ⟨word_val ((batch_val t).trans (by omega)) (by omega), word_val ((half_val t).trans (by omega)) (by omega)⟩

variable (c : Dev nD) (t : Fin cfg0.N)

/-- The masking input's block. -/
theorem mask_block (b : Fin 32) (hb : b.val = t.val / 2) (r : Fin 2048) (j k : Fin 1024) (hr : r.val = 1024 * (t.val % 2) + j.val) :
    (iblk m c 0 t : Vec F S1x1024x1024 .f32) (ix3 (0 : Fin 1) j k) = m ((c : Thread nD τ).loc main_arg0) (ix3 b r k) := by
  rw [← V_main_arg0 m c]
  unfold iblk
  rw [View.read_apply]
  show V m c main_arg0 _ = V m c main_arg0 _
  generalize V m c main_arg0 = f
  congr 1
  funext a
  apply Fin.ext
  match a with
  | ⟨0, _⟩ =>
    show (BitVec.ofNat 32 (grid0.coords t 0).val).toNat * 1 + 1 * 0 = b.val
    rw [(point_val t).1]; omega
  | ⟨1, _⟩ =>
    show (BitVec.ofNat 32 (grid0.coords t 1).val).toNat * 1024 + 1 * j.val = r.val
    rw [(point_val t).2]; omega
  | ⟨2, _⟩ =>
    show 0 * 1024 + 1 * k.val = k.val
    omega

/-- The sequence's block. -/
theorem seq_block (b : Fin 32) (hb : b.val = t.val / 2) (r : Fin 2048) (j k : Fin 1024) (hr : r.val = 1024 * (t.val % 2) + j.val) :
    (iblk m c 1 t : Vec F S1x1024x1024 .f32) (ix3 (0 : Fin 1) j k) = m ((c : Thread nD τ).loc main_arg1) (ix3 b r k) := by
  rw [← V_main_arg1 m c]
  unfold iblk
  rw [View.read_apply]
  show V m c main_arg1 _ = V m c main_arg1 _
  generalize V m c main_arg1 = f
  congr 1
  funext a
  apply Fin.ext
  match a with
  | ⟨0, _⟩ =>
    show (BitVec.ofNat 32 (grid0.coords t 0).val).toNat * 1 + 1 * 0 = b.val
    rw [(point_val t).1]; omega
  | ⟨1, _⟩ =>
    show (BitVec.ofNat 32 (grid0.coords t 1).val).toNat * 1024 + 1 * j.val = r.val
    rw [(point_val t).2]; omega
  | ⟨2, _⟩ =>
    show 0 * 1024 + 1 * k.val = k.val
    omega

/-- The projection's block is the projection. -/
theorem proj_block (k : Fin 1024) (p : Fin 512) :
    (iblk m c 2 t : Vec F S1024x512 .f32) (ix2 k p) = m ((c : Thread nD τ).loc main_arg2) (ix2 k p) := by
  rw [← V_main_arg2 m c]
  unfold iblk
  rw [View.read_apply]
  show V m c main_arg2 _ = V m c main_arg2 _
  generalize V m c main_arg2 = f
  congr 1
  funext a
  apply Fin.ext
  match a with
  | ⟨0, _⟩ => show 0 * 1024 + 1 * k.val = k.val; omega
  | ⟨1, _⟩ => show 0 * 512 + 1 * p.val = p.val; omega

/-- The host lays the score vector out as one row. -/
theorem V_vector : (V m c main_v0 : Vec F S1x512 .f32)
    = shapeCast S1x512 (m ((c : Thread nD τ).loc main_arg3) : Vec F S512 .f32) shapeCasts_S512_S1x512 := by
  show StableHlo.after (List.flatten [hostOps0]) _ _ = _
  simp only [hostOps0, List.flatten_cons, List.flatten_nil, List.append_nil, StableHlo.after_cons, StableHlo.after_nil]
  exact StableHlo.reshape_result' ..

/-- The score vector's block is the score vector. -/
theorem vector_block (p : Fin 512) :
    (iblk m c 3 t : Vec F S1x512 .f32) (ix2 (0 : Fin 1) p) = m ((c : Thread nD τ).loc main_arg3) (ix1 p) := by
  have hV : (V m c main_v0 : Vec F S1x512 .f32) (ix2 (0 : Fin 1) p) = m ((c : Thread nD τ).loc main_arg3) (ix1 p) := by
    rw [V_vector]
    exact shapeCast_a_1a_apply _ _ 0 p
  rw [← hV]
  unfold iblk
  rw [View.read_apply]
  show V m c main_v0 _ = V m c main_v0 _
  generalize V m c main_v0 = f
  congr 1
  funext a
  apply Fin.ext
  match a with
  | ⟨0, _⟩ => show 0 * 1 + 1 * 0 = 0; omega
  | ⟨1, _⟩ => show 0 * 512 + 1 * p.val = p.val; omega

end Cert.KernelIdeal.Blocks

end
-- ==== Proof.Body.lean ====
/-
  What one grid point of the kernel leaves behind, as pure functions of the blocks it reads.

  A grid point handles one half of the rows of one batch. On the first half the three scratch buffers receive the
  half's maximum, its sum of exponentials and its weighted row. On the second half they receive the merged maximum,
  sum and row, and the output's buffer receives the merged row divided by the merged sum. Each buffer is stored
  whole exactly once, so what it holds is the stored value.
-/
module

public import proofs.«01_k».proof.Proof.Gen.KernelIdeal.Frame
public import Idealize.ShloMosaic.Lib.Pipeline.Value
public import Idealize.ShloMosaic.Lib.Tactic

@[expose] public section

noncomputable section

namespace Cert.KernelIdeal.Body

open Idealize.ShloMosaic Idealize.ShloMosaic.TcCoe
open Cert.KernelIdeal Cert.KernelIdeal.Gen

variable {F : FTy → Type} [FloatOps F]

/-- The zero offsets of a rank-two rectangle. -/
theorem off2 : (![0, 0] : Fin 2 → Nat) = fun _ => 0 := funext fun a => by fin_cases a <;> rfl

/-- The zero offsets of a rank-three rectangle. -/
theorem off3 : (![0, 0, 0] : Fin 3 → Nat) = fun _ => 0 := funext fun a => by fin_cases a <;> rfl

variable (c : Dev nD) (i : grid0.Coords)
  (a2 : Memref sig .tc .vmem S1x1024x1024 .f32) (h2 : a2.IsWhole)
  (a3 : Memref sig .tc .vmem S1x1024x1024 .f32) (h3 : a3.IsWhole)
  (a4 : Memref sig .tc .vmem S1024x512 .f32) (h4 : a4.IsWhole)
  (a5 : Memref sig .tc .vmem S1x512 .f32) (h5 : a5.IsWhole)
  (a6 : Memref sig .tc .vmem S1x1x1024 .f32) (h6 : a6.IsWhole)
  (a7 : Memref sig .tc .vmem S1x1 .f32) (h7 : a7.IsWhole)
  (a8 : Memref sig .tc .vmem S1x1 .f32) (h8 : a8.IsWhole)
  (a9 : Memref sig .tc .vmem S1x1024 .f32) (h9 : a9.IsWhole)
  (x0 x1 : Vec F S1x1024x1024 .f32) (x2 : Vec F S1024x512 .f32) (x3 : Vec F S1x512 .f32)

section First

variable (hc0 : cond0_0 i) (hc1 : ¬cond0_1 i) (hc2 : ¬cond0_2 i)

/-- On the first half the first scratch buffer receives the half's maximum. -/
theorem first_max :
    sout0_A_0 c i a2 h2 a3 h3 a4 h4 a5 h5 a6 h6 a7 h7 a8 h8 a9 h9 hc0 hc1 hc2 x0 x1 x2 x3 = k0_pay5 x0 x1 x2 x3 := by
  unfold sout0_A_0
  rw [View.read_writes_eq_canon _ _ _ (scover0_A_0 c i a2 h2 a3 h3 a4 h4 a5 h5 a6 h6 a7 h7 a8 h8 a9 h9 hc0 hc1 hc2 x0 x1 x2 x3)]
  unfold kernelRun0_A
  dsimp only
  rw [View.canon_unit_zero off2]
  simp only [View.readAt_eq_ld, h2.read_unread, h3.read_unread, h4.read_unread, h5.read_unread,
    View.ld_unit_zero (S := S1x1024x1024) off3, View.ld_unit_zero (S := S1024x512) off2,
    View.ld_unit_zero (S := S1x512) off2]

/-- On the first half the second scratch buffer receives the half's sum of exponentials. -/
theorem first_sum :
    sout0_A_1 c i a2 h2 a3 h3 a4 h4 a5 h5 a6 h6 a7 h7 a8 h8 a9 h9 hc0 hc1 hc2 x0 x1 x2 x3 = k0_pay6 x0 x1 x2 x3 := by
  unfold sout0_A_1
  rw [View.read_writes_eq_canon _ _ _ (scover0_A_1 c i a2 h2 a3 h3 a4 h4 a5 h5 a6 h6 a7 h7 a8 h8 a9 h9 hc0 hc1 hc2 x0 x1 x2 x3)]
  unfold kernelRun0_A
  dsimp only
  rw [View.canon_unit_zero off2]
  simp only [View.readAt_eq_ld, h2.read_unread, h3.read_unread, h4.read_unread, h5.read_unread,
    View.ld_unit_zero (S := S1x1024x1024) off3, View.ld_unit_zero (S := S1024x512) off2,
    View.ld_unit_zero (S := S1x512) off2]

/-- On the first half the third scratch buffer receives the half's weighted row. -/
theorem first_row :
    sout0_A_2 c i a2 h2 a3 h3 a4 h4 a5 h5 a6 h6 a7 h7 a8 h8 a9 h9 hc0 hc1 hc2 x0 x1 x2 x3 = k0_pay7 x0 x1 x2 x3 := by
  unfold sout0_A_2
  rw [View.read_writes_eq_canon _ _ _ (scover0_A_2 c i a2 h2 a3 h3 a4 h4 a5 h5 a6 h6 a7 h7 a8 h8 a9 h9 hc0 hc1 hc2 x0 x1 x2 x3)]
  unfold kernelRun0_A
  dsimp only
  rw [View.canon_unit_zero off2]
  simp only [View.readAt_eq_ld, h2.read_unread, h3.read_unread, h4.read_unread, h5.read_unread,
    View.ld_unit_zero (S := S1x1024x1024) off3, View.ld_unit_zero (S := S1024x512) off2,
    View.ld_unit_zero (S := S1x512) off2]

end First

section Second

variable (hc0 : ¬cond0_0 i) (hc1 : cond0_1 i) (hc2 : cond0_2 i)
  (xs0 xs1 : Vec F S1x1 .f32) (xs2 : Vec F S1x1024 .f32)

/-- On the second half the output's buffer receives the merged row over the merged sum, the scratch buffers holding
    the first half's maximum `xs0`, sum `xs1` and row `xs2`. -/
theorem second_out :
    out0_B_4 c i a2 h2 a3 h3 a4 h4 a5 h5 a6 h6 a7 h7 a8 h8 a9 h9 hc0 hc1 hc2 x0 x1 x2 x3 xs0 xs1 xs2
      = k0_pay14 (k0_pay13 x0 x1 x2 x3 xs0 xs2) (k0_pay12 x0 x1 x2 x3 xs0 xs1) := by
  unfold out0_B_4
  rw [View.read_writes_eq_canon _ _ _ (cover0_B_4 c i a2 h2 a3 h3 a4 h4 a5 h5 a6 h6 a7 h7 a8 h8 a9 h9 hc0 hc1 hc2 x0 x1 x2 x3 xs0 xs1 xs2)]
  unfold kernelRun0_B
  dsimp only
  sl_unfold_words
  rw [View.canon_unit_zero off3, View.readCov_unit_zero (S := S1x1024) _ off2, View.readCov_unit_zero (S := S1x1) _ off2]
  simp only [View.readAt_eq_ld, h2.read_unread, h3.read_unread, h4.read_unread, h5.read_unread, h7.read_unread,
    h8.read_unread, h9.read_unread, View.ld_unit_zero (S := S1x1024x1024) off3, View.ld_unit_zero (S := S1024x512) off2,
    View.ld_unit_zero (S := S1x512) off2, View.ld_unit_zero (S := S1x1) off2, View.ld_unit_zero (S := S1x1024) off2]

end Second

end Cert.KernelIdeal.Body

end
-- ==== Proof.Points.lean ====
/-
  What the buffers hold after a grid point, over what they held before it.

  After a first half the scratch buffers hold that half's maximum, sum and weighted row. After a second half the
  output's buffer holds the quotient of the merged row and the merged sum.
-/
module

public import proofs.«01_k».proof.Proof.Body

@[expose] public section

noncomputable section

namespace Cert.KernelIdeal.Points

open Idealize.ShloMosaic Idealize.ShloMosaic.TcCoe
open Cert.KernelIdeal Cert.KernelIdeal.Gen

variable {F : FTy → Type} [FloatOps F]
variable (m : (ℓ : Loc nD τ sig) → Buf (Elt F) ℓ) (c : Dev nD) (t : Fin cfg0.N)

/-- The scratch buffers after a first half. -/
theorem after_first (h : t.val % 2 = 0) :
    (outsAt0 m c t.val t.isLt).2
      = (k0_pay5 (F := F) (iblk m c 0 t) (iblk m c 1 t) (iblk m c 2 t) (iblk m c 3 t),
        k0_pay6 (F := F) (iblk m c 0 t) (iblk m c 1 t) (iblk m c 2 t) (iblk m c 3 t),
        k0_pay7 (F := F) (iblk m c 0 t) (iblk m c 1 t) (iblk m c 2 t) (iblk m c 3 t)) := by
  have h' : ¬t.val % 2 = 1 := by omega
  rw [outsAt0_A m c t h h' h']
  dsimp only
  rw [Body.first_max, Body.first_sum, Body.first_row]

/-- The output's buffer after a second half, over what the scratch buffers held before it. -/
theorem after_second (h : t.val % 2 = 1) (hp : t.val - 1 < cfg0.N) :
    (outsAt0 m c t.val t.isLt).1
      = k0_pay14 (F := F)
        (k0_pay13 (F := F) (iblk m c 0 t) (iblk m c 1 t) (iblk m c 2 t) (iblk m c 3 t)
          (outsAt0 m c (t.val - 1) hp).2.1 (outsAt0 m c (t.val - 1) hp).2.2.2)
        (k0_pay12 (F := F) (iblk m c 0 t) (iblk m c 1 t) (iblk m c 2 t) (iblk m c 3 t)
          (outsAt0 m c (t.val - 1) hp).2.1 (outsAt0 m c (t.val - 1) hp).2.2.1) := by
  have h' : ¬t.val % 2 = 0 := by omega
  rw [outsAt0_B m c t h' h h]
  dsimp only
  rw [Body.second_out]

end Cert.KernelIdeal.Points

end
-- ==== Proof.Algebra.lean ====
/-
  Two ways to average a column of values by softmax weights, over the extended reals, and why they agree.

  The plain way (`softmaxMean`) subtracts the greatest score from every score, exponentiates, divides each exponential
  by their sum and adds up value times weight. The two-pass way (`mergedMean`) handles a first half and a second half:
  the first half is summed against its own greatest score, then rescaled to the greatest score of both halves when the
  second half arrives, and one division ends it. They agree whenever every score is a real number, for any values:
  infinities among the values are allowed, because only nonnegative real factors are moved across sums.
-/
module

public import Idealize.ShloMosaic.PureOps.Ideal
public import Idealize.ShloMosaic.PureOps.Ideal.Laws

@[expose] public section

noncomputable section

namespace Cert.Attention

open Idealize.ShloMosaic
open scoped BigOperators

/-! ### The two averages -/

/-- The greatest of finitely many scores, `-∞` if there is none. -/
def greatest {n : ℕ} (s : Fin n → EReal) : EReal := Finset.univ.fold max ⊥ s

/-- The sum of the exponentials of the scores taken relative to `m`. -/
def expSum {n : ℕ} (s : Fin n → EReal) (m : EReal) : EReal := ∑ j, Ideal.exp (s j - m)

/-- The sum of the values weighted by the exponentials of the scores taken relative to `m`. -/
def expMean {n : ℕ} (s v : Fin n → EReal) (m : EReal) : EReal := ∑ j, Ideal.exp (s j - m) * v j

/-- The average computed half by half: the first half's sum and weighted sum are rescaled from its own greatest score to
    the greatest of both halves, the second half's are added, and the two totals are divided. -/
def mergedMean {n : ℕ} (s₀ s₁ v₀ v₁ : Fin n → EReal) : EReal :=
  Ideal.div
    (expMean s₀ v₀ (greatest s₀) * Ideal.exp (greatest s₀ - max (greatest s₀) (greatest s₁))
      + expMean s₁ v₁ (max (greatest s₀) (greatest s₁)))
    (expSum s₀ (greatest s₀) * Ideal.exp (greatest s₀ - max (greatest s₀) (greatest s₁))
      + expSum s₁ (max (greatest s₀) (greatest s₁)))

/-- The plain softmax average of the values `v` at the scores `s`. -/
def softmaxMean {n : ℕ} (s v : Fin n → EReal) : EReal :=
  ∑ j, v j * Ideal.div (Ideal.exp (s j - greatest s)) (expSum s (greatest s))

/-! ### Moving a nonnegative real factor across a sum -/

/-- A nonnegative real factor on the right moves inside a finite sum of extended reals. -/
theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- A finite sum of real numbers is the same number read as an extended real. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ### The greatest score -/

/-- The greatest of a nonempty family of real scores is real. -/
theorem greatest_real {n : ℕ} (hn : 0 < n) (s : Fin n → ℝ) : ∃ r : ℝ, greatest (fun j => (s j : EReal)) = r := by
  have hne : (Finset.univ : Finset (Fin n)).Nonempty := ⟨⟨0, hn⟩, Finset.mem_univ _⟩
  obtain ⟨i, -, hi⟩ := Finset.exists_mem_eq_sup Finset.univ hne fun j => (s j : EReal)
  exact ⟨s i, hi⟩

/-- The greatest of two halves taken together is the greater of the two greatest. -/
theorem greatest_append {n : ℕ} (s : Fin (n + n) → EReal) :
    greatest s = max (greatest fun j => s (Fin.castAdd n j)) (greatest fun j => s (Fin.natAdd n j)) := by
  have e {k : ℕ} (t : Fin k → EReal) : greatest t = Finset.univ.sup t := rfl
  simp only [e]
  apply le_antisymm
  · refine Finset.sup_le fun j _ => ?_
    induction j using Fin.addCases with
    | left j => exact le_max_of_le_left (Finset.le_sup (f := fun j => s (Fin.castAdd n j)) (Finset.mem_univ j))
    | right j => exact le_max_of_le_right (Finset.le_sup (f := fun j => s (Fin.natAdd n j)) (Finset.mem_univ j))
  · exact max_le (Finset.sup_le fun j _ => Finset.le_sup (Finset.mem_univ _))
      (Finset.sup_le fun j _ => Finset.le_sup (Finset.mem_univ _))

/-! ### Rescaling from one reference score to another -/

/-- The exponential of a difference of reals. -/
theorem exp_coe_sub (a b : ℝ) : Ideal.exp ((a : EReal) - (b : EReal)) = (Real.exp (a - b) : EReal) := by
  rw [← EReal.coe_sub]; rfl

/-- Relative to `b` instead of `a`, every exponential gains the same factor. -/
theorem exp_rescale (t a b : ℝ) : Real.exp (t - a) * Real.exp (a - b) = Real.exp (t - b) := by
  rw [← Real.exp_add]; congr 1; ring

/-- The sum of exponentials of real scores is a real sum. -/
theorem expSum_coe {n : ℕ} (s : Fin n → ℝ) (m : ℝ) :
    expSum (fun j => (s j : EReal)) m = ((∑ j, Real.exp (s j - m) : ℝ) : EReal) := by
  rw [coe_sum]; exact Finset.sum_congr rfl fun j _ => exp_coe_sub _ _

/-- A sum of exponentials moves to another reference score by one factor. -/
theorem expSum_rescale {n : ℕ} (s : Fin n → ℝ) (a b : ℝ) :
    expSum (fun j => (s j : EReal)) a * Ideal.exp ((a : EReal) - b) = expSum (fun j => (s j : EReal)) b := by
  rw [expSum_coe, expSum_coe, exp_coe_sub, ← EReal.coe_mul, Finset.sum_mul]
  exact congrArg _ (Finset.sum_congr rfl fun j _ => exp_rescale _ _ _)

/-- So does a weighted sum, whatever the values. -/
theorem expMean_rescale {n : ℕ} (s : Fin n → ℝ) (v : Fin n → EReal) (a b : ℝ) :
    expMean (fun j => (s j : EReal)) v a * Ideal.exp ((a : EReal) - b) = expMean (fun j => (s j : EReal)) v b := by
  unfold expMean
  rw [exp_coe_sub, sum_mul_coe _ _ (Real.exp_pos _).le]
  refine Finset.sum_congr rfl fun j _ => ?_
  rw [exp_coe_sub, exp_coe_sub, mul_assoc, mul_comm (v j), ← mul_assoc, ← EReal.coe_mul, exp_rescale]

/-- Dividing by a positive real is multiplying by its inverse. -/
theorem div_coe (x : EReal) {l : ℝ} (hl : 0 < l) : Ideal.div x (l : EReal) = x * ((l⁻¹ : ℝ) : EReal) := by
  unfold Ideal.div
  rw [if_neg (by exact_mod_cast hl.ne'), EReal.coe_inv]

/-! ### The two averages agree -/

/-- Read over both halves together, the plain average is the weighted sum divided by the sum of exponentials. -/
theorem softmaxMean_eq_div {n : ℕ} (hn : 0 < n) (s : Fin n → ℝ) (v : Fin n → EReal) :
    softmaxMean (fun j => (s j : EReal)) v
      = Ideal.div (expMean (fun j => (s j : EReal)) v (greatest fun j => (s j : EReal)))
          (expSum (fun j => (s j : EReal)) (greatest fun j => (s j : EReal))) := by
  obtain ⟨m, hm⟩ := greatest_real hn s
  have hl : 0 < ∑ j, Real.exp (s j - m) :=
    Finset.sum_pos (fun j _ => Real.exp_pos _) ⟨⟨0, hn⟩, Finset.mem_univ _⟩
  unfold softmaxMean
  rw [hm, expSum_coe, div_coe _ hl]
  unfold expMean
  rw [sum_mul_coe _ _ (inv_nonneg.mpr hl.le)]
  refine Finset.sum_congr rfl fun j _ => ?_
  rw [div_coe _ hl, ← mul_assoc, mul_comm (v j)]

/-- The average computed half by half is the plain average over both halves, for real scores and any values. -/
theorem mergedMean_eq_softmaxMean {n : ℕ} (hn : 0 < n) (s : Fin (n + n) → EReal) (v : Fin (n + n) → EReal)
    (hs : ∀ j, ∃ r : ℝ, s j = r) :
    mergedMean (fun j => s (Fin.castAdd n j)) (fun j => s (Fin.natAdd n j))
        (fun j => v (Fin.castAdd n j)) (fun j => v (Fin.natAdd n j))
      = softmaxMean s v := by
  choose r hr using hs
  obtain rfl : s = fun j => (r j : EReal) := funext hr
  rw [softmaxMean_eq_div (by omega)]
  obtain ⟨m₀, h₀⟩ := greatest_real hn fun j => r (Fin.castAdd n j)
  obtain ⟨m₁, h₁⟩ := greatest_real hn fun j => r (Fin.natAdd n j)
  have hmax : max (m₀ : EReal) (m₁ : EReal) = ((max m₀ m₁ : ℝ) : EReal) := (EReal.coe_strictMono.monotone.map_max).symm
  rw [greatest_append]
  unfold mergedMean
  simp only [h₀, h₁]
  rw [hmax, expMean_rescale, expSum_rescale]
  unfold expMean expSum
  rw [Fin.sum_univ_add, Fin.sum_univ_add]

end Cert.Attention

end
-- ==== Proof.Score.lean ====
/-
  The score of one row, over the extended reals, and why it is a real number.

  A row of the masking input and a row of the sequence give one score: a fixed very negative number if the masking row
  sums to zero, and otherwise the dot product of the score vector with the hyperbolic tangents of the projected row.
  A hyperbolic tangent is real whatever it is taken of, so the score is real as soon as the score vector is.
-/
module

public import proofs.«01_k».proof.Proof.Algebra
public import Idealize.ShloMosaic.Lib.IdealHost

@[expose] public section

noncomputable section

namespace Cert.Attention

open Idealize.ShloMosaic
open scoped BigOperators

/-- The score that a masked row receives. -/
def maskedScore : EReal := Ideal.ofBits .f32 0xCE6E6B28#32

/-- The score of one row: `x` is the masking row, `g` the sequence row, `w` the projection and `u` the score vector. -/
def score {d a : ℕ} (x g : Fin d → EReal) (w : Fin d → Fin a → EReal) (u : Fin a → EReal) : EReal :=
  Scalar.select (Ideal.cmp .oeq (∑ k, x k) 0) maskedScore (∑ p, u p * Ideal.tanh (∑ k, g k * w k p))

/-- The masked score is a real number. -/
theorem maskedScore_real : ∃ r : ℝ, maskedScore = r := by
  unfold maskedScore Ideal.ofBits Ideal.ieee
  dsimp only
  rw [if_neg (by decide), if_neg (by decide)]
  exact ⟨_, rfl⟩

/-- A hyperbolic tangent is a real number, at the infinities too. -/
theorem tanh_real (z : EReal) : ∃ r : ℝ, Ideal.tanh z = r := by
  induction z using EReal.rec with
  | bot => exact ⟨-1, by rw [EReal.coe_neg, EReal.coe_one]; rfl⟩
  | coe r => exact ⟨Real.tanh r, rfl⟩
  | top => exact ⟨1, by rw [EReal.coe_one]; rfl⟩

/-- With a real score vector every score is a real number. -/
theorem score_real {d a : ℕ} (x g : Fin d → EReal) (w : Fin d → Fin a → EReal) (u : Fin a → EReal)
    (hu : ∀ p, ∃ r : ℝ, u p = r) : ∃ r : ℝ, score x g w u = r := by
  choose r hr using hu
  choose t ht using fun p => tanh_real (∑ k, g k * w k p)
  have hdot : ∑ p, u p * Ideal.tanh (∑ k, g k * w k p) = ((∑ p, r p * t p : ℝ) : EReal) := by
    rw [coe_sum]
    exact Finset.sum_congr rfl fun p _ => by rw [hr, ht, EReal.coe_mul]
  unfold score Scalar.select
  split
  · exact maskedScore_real
  · exact ⟨_, hdot⟩

/-- The sign of an absolute value is zero exactly when the number is: comparing it with zero is comparing the number. -/
theorem cmp_sign_abs (y : EReal) : Ideal.cmp .oeq (Ideal.sign (max y (-y))) 0 = Ideal.cmp .oeq y 0 := by
  have h : Ideal.sign (max y (-y)) = 0 ↔ y = 0 := by
    refine ⟨fun hs => ?_, fun hy => by rw [hy, neg_zero, max_self, Ideal.sign_zero]⟩
    by_contra hy
    rw [Ideal.sign_of_pos ((Ideal.zero_lt_max_neg_iff y).mpr hy)] at hs
    exact one_ne_zero hs
  unfold Ideal.cmp
  simp only [h]

end Cert.Attention

end
-- ==== Proof.Payload.lean ====
/-
  What the kernel's body stores, read entry by entry over the extended reals.

  The body reads a half of the masking input and of the sequence for one batch, the projection and the score vector.
  From these it forms the scores of the half's rows, their greatest, their sum of exponentials and the weighted row.
  Each lemma here reads one stored value at one position.
-/
module

public import proofs.«01_k».proof.Proof.Score
public import proofs.«01_k».proof.Proof.Gen.KernelIdeal.Skeleton
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.KernelIdeal.Payload

open Idealize.ShloMosaic Idealize.ShloMosaic.ValueIdx
open Cert.KernelIdeal Cert.KernelIdeal.Gen Cert.Attention
open scoped BigOperators

/-- The bit pattern of minus infinity is the least extended real. -/
theorem ofBits_neg_inf : Ideal.ofBits .f32 0xFF800000#32 = ⊥ := by simp [Ideal.ofBits, Ideal.ieee]

variable (x g : FVec Ideal S1x1024x1024 .f32) (w : FVec Ideal S1024x512 .f32) (u : FVec Ideal S1x512 .f32)

/-- The scores of the half's rows. -/
def scores (j : Fin 1024) : EReal :=
  score (fun k : Fin 1024 => x (ix3 (0 : Fin 1) j k)) (fun k : Fin 1024 => g (ix3 (0 : Fin 1) j k))
    (fun (k : Fin 1024) (p : Fin 512) => w (ix2 k p)) fun p : Fin 512 => u (ix2 (0 : Fin 1) p)

/-- The values of the half's rows in column `d`. -/
def column (d j : Fin 1024) : EReal := g (ix3 (0 : Fin 1) j d)

/-- The sequence block as a matrix. -/
theorem seq_apply (j k : Fin 1024) : k0_pay1 (F := Ideal) g (ix2 j k) = g (ix3 (0 : Fin 1) j k) :=
  shapeCast_1ab_ab_apply g _ j k

/-- The masked score row. -/
theorem scores_apply (j : Fin 1024) : k0_pay2 (F := Ideal) x g w u (ix2 (0 : Fin 1) j) = scores x g w u j := by
  have hrow : matmul dot_S1x1024_S1024x1024_S1x1024_1_1_0_0_n_n none
      (broadcast S1x1024 (Scalar.ofBits (F := Ideal) .f32 0x3F800000#32))
      (shapeCast S1024x1024 x shapeCasts_S1x1024x1024_S1024x1024) (constant S1x1024 .f32 0x00000000#32)
      (ix2 (0 : Fin 1) j) = ∑ k : Fin 1024, x (ix3 (0 : Fin 1) j k) := by
    refine (Ideal.matmul_transposedRhs_apply (M := 1) (K := 1024) (N := 1024) none _ _ _ 0 j).trans ?_
    rw [constant_apply, Ideal.ofBits_zero_f32, zero_add]
    refine Finset.sum_congr rfl fun k _ => ?_
    rw [shapeCast_1ab_ab_apply]
    show Ideal.ofBits .f32 0x3F800000#32 * _ = _
    rw [Ideal.ofBits_one_f32, one_mul]
  have hdot : matmul dot_S1x512_S1024x512_S1x1024_1_1_0_0_n_n none (shapeCast S1x512 u shapeCasts_S1x512_S1x512)
      (tanh (matmul dot_S1024x1024_S1024x512_S1024x512_1_0_0_1_n_n none (k0_pay1 (F := Ideal) g) w
        (constant S1024x512 .f32 0x00000000#32))) (constant S1x1024 .f32 0x00000000#32) (ix2 (0 : Fin 1) j)
      = ∑ p : Fin 512, u (ix2 (0 : Fin 1) p)
          * Ideal.tanh (∑ k : Fin 1024, g (ix3 (0 : Fin 1) j k) * w (ix2 k p)) := by
    refine (Ideal.matmul_transposedRhs_apply (M := 1) (K := 512) (N := 1024) none _ _ _ 0 j).trans ?_
    rw [constant_apply, Ideal.ofBits_zero_f32, zero_add, shapeCast_self]
    refine Finset.sum_congr rfl fun p _ => congrArg (u (ix2 (0 : Fin 1) p) * Ideal.tanh ·) ?_
    refine (Ideal.matmul_plain_apply (M := 1024) (K := 1024) (N := 512) none _ _ _ j p).trans ?_
    rw [constant_apply, Ideal.ofBits_zero_f32, zero_add]
    exact Finset.sum_congr rfl fun k _ => by rw [seq_apply]
  unfold k0_pay2 scores score
  dsimp only
  rw [select_apply, cmpf_apply, hrow, hdot]
  show Scalar.select (Ideal.cmp .oeq _ (Ideal.ofBits .f32 0x00000000#32)) _ _ = _
  rw [Ideal.ofBits_zero_f32]
  rfl

/-- The greatest score of the half. -/
theorem greatest_apply : k0_pay3 (F := Ideal) x g w u (ix2 (0 : Fin 1) (0 : Fin 1)) = greatest (scores x g w u) := by
  unfold k0_pay3
  dsimp only
  refine (shapeCast_a_a1_apply _ _ _ _).trans ((Ideal.multiReduction_maximumf_single _ _ _ _ _ _).trans ?_)
  rw [show FloatOps.ofBits (F := Ideal) .f32 0xFF800000#32 = ⊥ from ofBits_neg_inf]
  unfold greatest
  refine congrArg (fun f => Finset.fold max ⊥ f Finset.univ) (funext fun j => ?_)
  refine Eq.trans (congrArg (k0_pay2 (F := Ideal) x g w u) ?_) (scores_apply x g w u j)
  funext a
  match a with
  | ⟨0, _⟩ => rfl
  | ⟨1, _⟩ => rfl

/-- A one-by-one block broadcast along a row reads its entry. -/
theorem spread_apply (m : FVec Ideal S1x1 .f32) (j : Fin 1024) :
    broadcastTo S1x1024 m broadcasts_S1x1_S1x1024 (ix2 (0 : Fin 1) j) = m (ix2 (0 : Fin 1) (0 : Fin 1)) :=
  broadcastTo_apply m _ _ _ fun a => by match a with | ⟨0, _⟩ => rfl | ⟨1, _⟩ => rfl

/-- A row's sum, kept as a one-by-one block. -/
theorem rowSum_apply (e : FVec Ideal S1x1024 .f32) :
    shapeCast S1x1 (multiReduction .add [1] S1 e 0x00000000#32 reduces_S1x1024_S1 (.inl rfl) rfl) shapeCasts_S1_S1x1
      (ix2 (0 : Fin 1) (0 : Fin 1)) = ∑ j : Fin 1024, e (ix2 (0 : Fin 1) j) := by
  refine (shapeCast_a_a1_apply _ _ _ _).trans ((Ideal.multiReduction_add_single _ _ _ _ _ _).trans ?_)
  exact Finset.sum_congr rfl fun j _ => congrArg e (by funext a; match a with | ⟨0, _⟩ => rfl | ⟨1, _⟩ => rfl)

/-- A row times the sequence block. -/
theorem rowTimes_apply (e : FVec Ideal S1x1024 .f32) (d : Fin 1024) :
    matmul dot_S1x1024_S1024x1024_S1x1024_1_0_0_1_n_n none e (k0_pay1 (F := Ideal) g) (constant S1x1024 .f32 0x00000000#32)
      (ix2 (0 : Fin 1) d) = ∑ j : Fin 1024, e (ix2 (0 : Fin 1) j) * column g d j := by
  refine (Ideal.matmul_plain_apply (M := 1) (K := 1024) (N := 1024) none _ _ _ 0 d).trans ?_
  rw [constant_apply, Ideal.ofBits_zero_f32, zero_add]
  exact Finset.sum_congr rfl fun j _ => by rw [seq_apply]; rfl

/-! ### The first half -/

/-- The exponentials of the scores relative to the half's own greatest. -/
theorem first_exp (j : Fin 1024) :
    k0_pay4 (F := Ideal) x g w u (ix2 (0 : Fin 1) j) = Ideal.exp (scores x g w u j - greatest (scores x g w u)) := by
  unfold k0_pay4
  show Ideal.exp (k0_pay2 (F := Ideal) x g w u (ix2 (0 : Fin 1) j) - broadcastTo _ _ _ (ix2 (0 : Fin 1) j)) = _
  rw [spread_apply, scores_apply, greatest_apply]

/-- The first half's maximum buffer. -/
theorem first_max : k0_pay5 (F := Ideal) x g w u (ix2 (0 : Fin 1) (0 : Fin 1)) = greatest (scores x g w u) := by
  unfold k0_pay5
  rw [shapeCast_self, greatest_apply]

/-- The first half's sum buffer. -/
theorem first_sum : k0_pay6 (F := Ideal) x g w u (ix2 (0 : Fin 1) (0 : Fin 1)) = expSum (scores x g w u) (greatest (scores x g w u)) := by
  unfold k0_pay6
  rw [shapeCast_self, rowSum_apply]
  exact Finset.sum_congr rfl fun j _ => first_exp x g w u j

/-- The first half's weighted row. -/
theorem first_row (d : Fin 1024) :
    k0_pay7 (F := Ideal) x g w u (ix2 (0 : Fin 1) d) = expMean (scores x g w u) (column g d) (greatest (scores x g w u)) := by
  unfold k0_pay7
  rw [shapeCast_self, rowTimes_apply]
  exact Finset.sum_congr rfl fun j _ => by rw [first_exp]

/-! ### The second half -/

variable (m l : FVec Ideal S1x1 .f32) (r : FVec Ideal S1x1024 .f32)

/-- The greater of the running maximum and the half's greatest score. -/
theorem second_max :
    k0_pay8 (F := Ideal) x g w u m (ix2 (0 : Fin 1) (0 : Fin 1)) = max (m (ix2 (0 : Fin 1) (0 : Fin 1))) (greatest (scores x g w u)) := by
  unfold k0_pay8
  rw [maximumf_apply, greatest_apply]

/-- The factor that rescales the first half. -/
theorem second_factor :
    k0_pay9 (F := Ideal) x g w u m (ix2 (0 : Fin 1) (0 : Fin 1))
      = Ideal.exp (m (ix2 (0 : Fin 1) (0 : Fin 1)) - max (m (ix2 (0 : Fin 1) (0 : Fin 1))) (greatest (scores x g w u))) := by
  unfold k0_pay9
  show Ideal.exp (m (ix2 (0 : Fin 1) (0 : Fin 1)) - k0_pay8 (F := Ideal) x g w u m (ix2 (0 : Fin 1) (0 : Fin 1))) = _
  rw [second_max]

/-- The exponentials of the second half's scores relative to the greatest of both halves. -/
theorem second_exp (j : Fin 1024) :
    k0_pay10 (F := Ideal) x g w u m (ix2 (0 : Fin 1) j)
      = Ideal.exp (scores x g w u j - max (m (ix2 (0 : Fin 1) (0 : Fin 1))) (greatest (scores x g w u))) := by
  unfold k0_pay10
  show Ideal.exp (k0_pay2 (F := Ideal) x g w u (ix2 (0 : Fin 1) j) - broadcastTo _ _ _ (ix2 (0 : Fin 1) j)) = _
  rw [spread_apply, scores_apply, second_max]

/-- The merged sum. -/
theorem second_sum :
    k0_pay12 (F := Ideal) x g w u m l (ix2 (0 : Fin 1) (0 : Fin 1))
      = l (ix2 (0 : Fin 1) (0 : Fin 1))
          * Ideal.exp (m (ix2 (0 : Fin 1) (0 : Fin 1)) - max (m (ix2 (0 : Fin 1) (0 : Fin 1))) (greatest (scores x g w u)))
        + expSum (scores x g w u) (max (m (ix2 (0 : Fin 1) (0 : Fin 1))) (greatest (scores x g w u))) := by
  unfold k0_pay12
  rw [shapeCast_self, addf_apply, mulf_apply, second_factor, rowSum_apply]
  exact congrArg _ (Finset.sum_congr rfl fun j _ => second_exp x g w u m j)

/-- The merged row. -/
theorem second_row (d : Fin 1024) :
    k0_pay13 (F := Ideal) x g w u m r (ix2 (0 : Fin 1) d)
      = r (ix2 (0 : Fin 1) d)
          * Ideal.exp (m (ix2 (0 : Fin 1) (0 : Fin 1)) - max (m (ix2 (0 : Fin 1) (0 : Fin 1))) (greatest (scores x g w u)))
        + expMean (scores x g w u) (column g d) (max (m (ix2 (0 : Fin 1) (0 : Fin 1))) (greatest (scores x g w u))) := by
  unfold k0_pay13
  rw [shapeCast_self, addf_apply, mulf_apply, spread_apply, second_factor, rowTimes_apply]
  exact congrArg _ (Finset.sum_congr rfl fun j _ => by rw [second_exp])

/-- The output block: the merged row over the merged sum. -/
theorem quotient_apply (d : Fin 1024) :
    k0_pay14 (F := Ideal) r l (ix3 (0 : Fin 1) (0 : Fin 1) d)
      = Ideal.div (r (ix2 (0 : Fin 1) d)) (l (ix2 (0 : Fin 1) (0 : Fin 1))) := by
  unfold k0_pay14
  rw [shapeCast_ab_1ab_apply, divf_apply, spread_apply]

end Cert.KernelIdeal.Payload

end
-- ==== Proof.Pooled.lean ====
/-
  The result both programs compute, as a function of the four argument arrays.

  For each batch every one of the 2048 rows has a score, and the result's entry in column `d` is the average of that
  column of the sequence with the softmax of the scores as weights.
-/
module

public import proofs.«01_k».proof.Proof.Score
public import Idealize.ShloMosaic.Lib.ValueIdx

@[expose] public section

noncomputable section

namespace Cert.Attention

open Idealize.ShloMosaic Idealize.ShloMosaic.ValueIdx

variable (x g : (⟨3, ![32, 2048, 1024]⟩ : Shape).Idx → EReal) (w : (⟨2, ![1024, 512]⟩ : Shape).Idx → EReal)
  (u : (⟨1, ![512]⟩ : Shape).Idx → EReal)

/-- The score of row `r` of batch `b`. -/
def rowScore (b : Fin 32) (r : Fin 2048) : EReal :=
  score (fun k : Fin 1024 => x (ix3 b r k)) (fun k : Fin 1024 => g (ix3 b r k))
    (fun (k : Fin 1024) (p : Fin 512) => w (ix2 k p)) fun p : Fin 512 => u (ix1 p)

/-- The pooled sequence: batch `b`, column `d`. -/
def pooled (b : Fin 32) (d : Fin 1024) : EReal :=
  softmaxMean (n := 2048) (rowScore x g w u b) fun r => g (ix3 b r d)

/-- With a real score vector every row's score is real. -/
theorem rowScore_real (hu : ∀ p : Fin 512, ∃ r : ℝ, u (ix1 p) = r) (b : Fin 32) (r : Fin 2048) :
    ∃ q : ℝ, rowScore x g w u b r = q :=
  score_real _ _ _ _ hu

end Cert.Attention

end
-- ==== Proof.KernelValue.lean ====
/-
  What the kernel's launch leaves in its result, over the extended reals.

  The two halves of a batch are two consecutive grid points. The first leaves its maximum, sum and weighted row in the
  scratch buffers, the second merges its own into them and writes the batch's row of the result. The merged quotient
  is the softmax average over all 2048 rows, since the scores are real. The host then drops the result's unit axis.
-/
module

public import proofs.«01_k».proof.Proof.Blocks
public import proofs.«01_k».proof.Proof.Points
public import proofs.«01_k».proof.Proof.Payload
public import proofs.«01_k».proof.Proof.Pooled

@[expose] public section

noncomputable section

namespace Cert.KernelIdeal.Result

open Idealize.ShloMosaic Idealize.ShloMosaic.TcCoe Idealize.ShloMosaic.ValueIdx Idealize.SL.Sem
open Cert.KernelIdeal Cert.KernelIdeal.Gen Cert.Attention
open Idealize.ShloMosaic.Pipeline (Dat)

variable (m : (ℓ : Loc nD τ sig) → Buf (Elt Ideal) ℓ) (ρ : Dev nD → PrngReg) (c : Dev nD)

/-- The score vector a device is given consists of real numbers. -/
def RealVector : Prop :=
  ∀ p : Fin 512, ∃ r : ℝ, (m ((c : Thread nD τ).loc main_arg3) : FVec Ideal S512 .f32) (ix1 p) = (r : EReal)

/-- The scores of a batch's rows. -/
def batchScore (b : Fin 32) (r : Fin 2048) : EReal :=
  rowScore (m ((c : Thread nD τ).loc main_arg0)) (m ((c : Thread nD τ).loc main_arg1))
    (m ((c : Thread nD τ).loc main_arg2)) (m ((c : Thread nD τ).loc main_arg3)) b r

/-- A column of a batch's rows. -/
def batchColumn (b : Fin 32) (d : Fin 1024) (r : Fin 2048) : EReal :=
  (m ((c : Thread nD τ).loc main_arg1) : FVec Ideal S32x2048x1024 .f32) (ix3 b r d)

/-- The pooled sequence of the device's arguments. -/
def value (b : Fin 32) (d : Fin 1024) : EReal :=
  pooled (m ((c : Thread nD τ).loc main_arg0)) (m ((c : Thread nD τ).loc main_arg1))
    (m ((c : Thread nD τ).loc main_arg2)) (m ((c : Thread nD τ).loc main_arg3)) b d

/-- The scores that a grid point computes from its blocks. -/
def pointScores (t : Fin cfg0.N) : Fin 1024 → EReal :=
  Payload.scores (iblk m c 0 t) (iblk m c 1 t) (iblk m c 2 t) (iblk m c 3 t)

/-- They are the scores of the batch's rows in the point's half. -/
theorem pointScores_eq (t : Fin cfg0.N) (b : Fin 32) (hb : b.val = t.val / 2) (j : Fin 1024) (r : Fin 2048)
    (hr : r.val = 1024 * (t.val % 2) + j.val) : pointScores m c t j = batchScore m c b r := by
  unfold pointScores Payload.scores batchScore rowScore
  rw [funext fun k => Blocks.mask_block m c t b hb r j k hr, funext fun k => Blocks.seq_block m c t b hb r j k hr,
    funext fun k => funext fun p => Blocks.proj_block m c t k p, funext fun p => Blocks.vector_block m c t p]

/-- A point's column is the batch's column in the point's half. -/
theorem pointColumn_eq (t : Fin cfg0.N) (b : Fin 32) (hb : b.val = t.val / 2) (d j : Fin 1024) (r : Fin 2048)
    (hr : r.val = 1024 * (t.val % 2) + j.val) : Payload.column (iblk m c 1 t) d j = batchColumn m c b d r :=
  Blocks.seq_block m c t b hb r j d hr

/-- So a second half leaves its batch's pooled row in the output's buffer. -/
theorem row_value (hu : RealVector m c) (t : Fin cfg0.N) (h : t.val % 2 = 1) (b : Fin 32) (hb : b.val = t.val / 2)
    (d : Fin 1024) : (outsAt0 m c t.val t.isLt).1 (ix3 (0 : Fin 1) (0 : Fin 1) d) = value m c b d := by
  have hp : t.val - 1 < cfg0.N := Nat.lt_of_le_of_lt (Nat.sub_le _ _) t.isLt
  have hfirst := Points.after_first (F := Ideal) m c ⟨t.val - 1, hp⟩ (by show (t.val - 1) % 2 = 0; omega)
  rw [Points.after_second (F := Ideal) m c t h hp, hfirst]
  refine (Payload.quotient_apply _ _ d).trans ?_
  rw [Payload.second_row, Payload.second_sum]
  dsimp only
  rw [Payload.first_max, Payload.first_sum, Payload.first_row]
  have e0 : pointScores m c ⟨t.val - 1, hp⟩ = fun j => batchScore m c b (Fin.castAdd 1024 j) :=
    funext fun j => pointScores_eq m c _ b (by show b.val = (t.val - 1) / 2; omega) j _ (by
      show j.val = 1024 * ((t.val - 1) % 2) + j.val; omega)
  have e1 : pointScores m c t = fun j => batchScore m c b (Fin.natAdd 1024 j) :=
    funext fun j => pointScores_eq m c t b hb j _ (by show 1024 + j.val = 1024 * (t.val % 2) + j.val; omega)
  have c0 : Payload.column (iblk m c 1 ⟨t.val - 1, hp⟩) d = fun j => batchColumn m c b d (Fin.castAdd 1024 j) :=
    funext fun j => pointColumn_eq m c _ b (by show b.val = (t.val - 1) / 2; omega) d j _ (by
      show j.val = 1024 * ((t.val - 1) % 2) + j.val; omega)
  have c1 : Payload.column (iblk m c 1 t) d = fun j => batchColumn m c b d (Fin.natAdd 1024 j) :=
    funext fun j => pointColumn_eq m c t b hb d j _ (by show 1024 + j.val = 1024 * (t.val % 2) + j.val; omega)
  unfold pointScores at e0 e1
  rw [e0, e1, c0, c1]
  exact mergedMean_eq_softmaxMean (n := 1024) (by decide) (batchScore m c b) (batchColumn m c b d)
    fun r => rowScore_real _ _ _ _ hu b r

/-- The result array of the launch. -/
def rows : Buf (Elt Ideal) ((c : Thread nD τ).loc main_v1) :=
  fun i : S32x1x1024.Idx => value m c (i 0) (i 2)

/-- Every write-back writes its part of that array. -/
theorem flushed_eq (hu : RealVector m c) (t : Fin cfg0.N) (hf : (cfg0.win 4).flush t = true) :
    (dats m 0 c).flushed 4 t = ((cfg0.win 4).blk t).view.read (Elt Ideal) (rows m c) := by
  have hN : t.val < 64 := lt_of_lt_of_eq t.isLt (show cfg0.N = 64 from N_0)
  have hodd : t.val % 2 = 1 := (flush0_4 t).mp hf
  show (cfg0.win 4).cut (grid0.coords t) ((dats m 0 c).after 4 t) = _
  rw [after0_4]
  funext y
  rw [View.read_apply]
  obtain ⟨y0, y1, y2, rfl⟩ : ∃ (y0 y1 : Fin 1) (y2 : Fin 1024), y = ix3 y0 y1 y2 := ⟨y 0, y 1, y 2, eq_ix3 y⟩
  obtain rfl : y0 = 0 := Subsingleton.elim _ _
  obtain rfl : y1 = 0 := Subsingleton.elim _ _
  refine (row_value m c hu t hodd ⟨t.val / 2, by omega⟩ rfl y2).trans ?_
  show _ = value m c _ _
  congr 1
  · apply Fin.ext
    show t.val / 2 = (BitVec.ofNat 32 (grid0.coords t 0).val).toNat * 1 + 1 * 0
    rw [(Blocks.point_val t).1]; omega
  · apply Fin.ext
    show y2.val = 0 * 1024 + 1 * y2.val
    omega

/-- Each batch's row is written at its second half, so the launch ends with that array. -/
theorem final (hu : RealVector m c) : (dats m 0 c).arrAt 4 cfg0.N = rows m c :=
  (dats m 0 c).arrAt_eq_of_cover 4 (rows m c) (flushed_eq m c hu) fun i => by
    have h0 : (i 0 : Nat) < 32 := (i 0).isLt
    have h1 : (i 1 : Nat) < 1 := (i 1).isLt
    have h2 : (i 2 : Nat) < 1024 := (i 2).isLt
    have ht : 2 * (i 0 : Nat) + 1 < cfg0.N := lt_of_lt_of_eq (by omega) (show cfg0.N = 64 from N_0).symm
    refine ⟨⟨2 * (i 0 : Nat) + 1, ht⟩, (flush0_4 _).mpr (by show (2 * (i 0 : Nat) + 1) % 2 = 1; omega), ?_⟩
    have hv := (Blocks.point_val ⟨2 * (i 0 : Nat) + 1, ht⟩).1
    show i ∈ ((View.whole main_v1).slice (win0_4.rect ⟨2 * (i 0 : Nat) + 1, ht⟩)).set
    rw [View.set_slice_whole, Rect.mem_set_unit]
    intro a
    match a with
    | ⟨0, _⟩ =>
      show (BitVec.ofNat 32 (grid0.coords ⟨2 * (i 0 : Nat) + 1, ht⟩ 0).val).toNat * 1 ≤ (i 0 : Nat)
        ∧ (i 0 : Nat) < (BitVec.ofNat 32 (grid0.coords ⟨2 * (i 0 : Nat) + 1, ht⟩ 0).val).toNat * 1 + 1
      rw [hv]
      dsimp only
      omega
    | ⟨1, _⟩ => show 0 * 1 ≤ (i 1 : Nat) ∧ (i 1 : Nat) < 0 * 1 + 1; omega
    | ⟨2, _⟩ => show 0 * 1024 ≤ (i 2 : Nat) ∧ (i 2 : Nat) < 0 * 1024 + 1024; omega

/-- The kernel's result: the pooled sequence. -/
def result : Buf (Elt Ideal) ((c : Thread nD τ).loc main_v2) :=
  fun i : S32x1024.Idx => value m c (i 0) (i 1)

/-- After the launch the host drops the unit axis of the result. -/
theorem tail_value (hu : RealVector m c) :
    Pipeline.afterTail₀ cfgs (dats m) 0 (V0 m) [hostOps1] c main_v2 = result m c := by
  have hrows : Pipeline.withArrays spec0 c (V0 m c) (fun w => (dats m 0 c).arrAt w cfg0.N) (Proc.devRef .tc main_v1)
      = rows m c :=
    (Pipeline.withArrays_arr spec0 (by decide) c (V0 m c) _ 4).trans (final m c hu)
  unfold Pipeline.afterTail₀
  simp only [hostOps1, List.flatten_cons, List.flatten_nil, List.append_nil, StableHlo.after_cons, StableHlo.after_nil]
  refine (StableHlo.reshape_result' ..).trans ?_
  funext i
  show shapeCast S32x1024 (Pipeline.withArrays spec0 c (V0 m c) (fun w => (dats m 0 c).arrAt w cfg0.N) (Proc.devRef .tc main_v1))
    shapeCasts_S32x1x1024_S32x1024 i = _
  rw [hrows]
  obtain ⟨b, d, rfl⟩ : ∃ (b : Fin 32) (d : Fin 1024), i = ix2 b d := ⟨i 0, i 1, eq_ix2 i⟩
  refine (shapeCast_apply (rows m c : FVec Ideal S32x1x1024 .f32) _ _ (ix3 b (0 : Fin 1) d) ?_).trans rfl
  show ((⟨3, ![32, 1, 1024]⟩ : Shape).rowMajor (ix3 b (0 : Fin 1) d)).val = ((⟨2, ![32, 1024]⟩ : Shape).rowMajor (ix2 b d)).val
  rw [Shape.rowMajor_val_two, Shape.rowMajor_val_three]
  show (b.val * 1 + 0) * 1024 + d.val = b.val * 1024 + d.val
  omega

/-- The kernel's run: the result holds the pooled sequence and the arguments are as before. -/
theorem run (hu : ∀ c, RealVector m c) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v2 (Pipeline.mem_restRefs_of main_v2 (by decide) (by decide))).trans (tail_value m c (hu c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  What the reference computes, over the extended reals.

  The reference forms every row's score, subtracts the greatest score of the batch, exponentiates, divides by the sum
  of the exponentials, and averages the sequence with these weights. Read entry by entry this is the pooled sequence.
-/
module

public import proofs.«01_k».proof.Proof.Pooled
public import proofs.«01_k».proof.Proof.Gen.ReferenceIdeal.Run
public import Idealize.ShloMosaic.Lib.ValueIdx
public import Idealize.ShloMosaic.Lib.IdealHost
public import Idealize.ShloMosaic.Lib.KernelVsHost
public import Idealize.ShloMosaic.Lib.Pipeline.Value

@[expose] public section

noncomputable section

namespace Cert.ReferenceIdeal.Result

open Idealize.ShloMosaic Idealize.ShloMosaic.TcCoe Idealize.ShloMosaic.ValueIdx Idealize.SL.Sem
open Cert.ReferenceIdeal Cert.ReferenceIdeal.Gen Cert.Attention
open scoped BigOperators

/-! ### The three contractions -/

/-- The projection of every row. -/
theorem proj_apply (g : FVec Ideal S32x2048x1024 .f32) (w : FVec Ideal S1024x512 .f32) (b : Fin 32) (r : Fin 2048)
    (p : Fin 512) :
    Host.dotGeneral dot_S32x2048x1024_S1024x512_S32x2048x512_2_0_01_1_n_n none g w (ix3 b r p)
      = ∑ k : Fin 1024, g (ix3 b r k) * w (ix2 k p) := by
  show FloatOps.dotGeneral _ _ _ g w (ix3 b r p) = _
  rw [Ideal.dotGeneral_apply,
    ← Equiv.sum_comp (contrEquiv1 dot_S32x2048x1024_S1024x512_S32x2048x512_2_0_01_1_n_n 1024 rfl rfl).symm]
  refine Finset.sum_congr rfl fun k _ => ?_
  have hk := contrEquiv1_symm_val dot_S32x2048x1024_S1024x512_S32x2048x512_2_0_01_1_n_n 1024 rfl rfl k
  congr 2
  · funext a
    apply Fin.ext
    match a with
    | ⟨0, _⟩ => rfl
    | ⟨1, _⟩ => rfl
    | ⟨2, _⟩ => exact hk
  · funext a
    apply Fin.ext
    match a with
    | ⟨0, _⟩ => exact hk
    | ⟨1, _⟩ => rfl

/-- The dot product of every projected row with the score vector. -/
theorem dot_apply (y : FVec Ideal S32x2048x512 .f32) (u : FVec Ideal S512 .f32) (b : Fin 32) (r : Fin 2048) :
    Host.dotGeneral dot_S32x2048x512_S512_S32x2048_2_0_01_n_n_n none y u (ix2 b r)
      = ∑ p : Fin 512, y (ix3 b r p) * u (ix1 p) := by
  show FloatOps.dotGeneral _ _ _ y u (ix2 b r) = _
  rw [Ideal.dotGeneral_apply,
    ← Equiv.sum_comp (contrEquiv1 dot_S32x2048x512_S512_S32x2048_2_0_01_n_n_n 512 rfl rfl).symm]
  refine Finset.sum_congr rfl fun k _ => ?_
  have hk := contrEquiv1_symm_val dot_S32x2048x512_S512_S32x2048_2_0_01_n_n_n 512 rfl rfl k
  congr 2
  · funext a
    apply Fin.ext
    match a with
    | ⟨0, _⟩ => rfl
    | ⟨1, _⟩ => rfl
    | ⟨2, _⟩ => exact hk
  · funext a
    apply Fin.ext
    match a with
    | ⟨0, _⟩ => exact hk

/-- The weighted average of every column. -/
theorem mean_apply (g : FVec Ideal S32x2048x1024 .f32) (e : FVec Ideal S32x2048 .f32) (b : Fin 32) (d : Fin 1024) :
    Host.dotGeneral dot_S32x2048x1024_S32x2048_S32x1024_1_1_2_n_0_0 none g e (ix2 b d)
      = ∑ r : Fin 2048, g (ix3 b r d) * e (ix2 b r) := by
  show FloatOps.dotGeneral _ _ _ g e (ix2 b d) = _
  rw [Ideal.dotGeneral_apply,
    ← Equiv.sum_comp (contrEquiv1 dot_S32x2048x1024_S32x2048_S32x1024_1_1_2_n_0_0 2048 rfl rfl).symm]
  refine Finset.sum_congr rfl fun k _ => ?_
  have hk := contrEquiv1_symm_val dot_S32x2048x1024_S32x2048_S32x1024_1_1_2_n_0_0 2048 rfl rfl k
  congr 2
  · funext a
    apply Fin.ext
    match a with
    | ⟨0, _⟩ => rfl
    | ⟨1, _⟩ => exact hk
    | ⟨2, _⟩ => rfl
  · funext a
    apply Fin.ext
    match a with
    | ⟨0, _⟩ => rfl
    | ⟨1, _⟩ => exact hk

/-! ### Reductions and broadcasts -/

/-- The row sums of the masking input. -/
theorem rowSum_apply (x : FVec Ideal S32x2048x1024 .f32) (b : Fin 32) (r : Fin 2048) :
    Host.reduceAdd x (constant S_ .f32 0x00000000#32) reducesTo_S32x2048x1024_S32x2048_d2 h_S_ (ix2 b r)
      = ∑ k : Fin 1024, x (ix3 b r k) := by
  rw [hostReduceAdd_apply, Ideal.hostReduceAdd_single _ (by decide), constant_apply, Ideal.ofBits_zero_f32, zero_add]
  refine Finset.sum_congr rfl fun k _ => congrArg x ?_
  funext a
  match a with
  | ⟨0, _⟩ => rfl
  | ⟨1, _⟩ => rfl
  | ⟨2, _⟩ => rfl

/-- The batch sums. -/
theorem batchSum_apply (e : FVec Ideal S32x2048 .f32) (b : Fin 32) :
    Host.reduceAdd e (constant S_ .f32 0x00000000#32) reducesTo_S32x2048_S32_d1 h_S_ (ix1 b)
      = ∑ r : Fin 2048, e (ix2 b r) := by
  rw [hostReduceAdd_apply, Ideal.hostReduceAdd_single _ (by decide), constant_apply, Ideal.ofBits_zero_f32, zero_add]
  refine Finset.sum_congr rfl fun k _ => congrArg e ?_
  funext a
  match a with
  | ⟨0, _⟩ => rfl
  | ⟨1, _⟩ => rfl

/-- The bit pattern of minus infinity is the least extended real. -/
theorem ofBits_neg_inf : FloatOps.ofBits (F := Ideal) .f32 0xFF800000#32 = ⊥ := by
  show Ideal.ofBits .f32 0xFF800000#32 = ⊥
  simp [Ideal.ofBits, Ideal.ieee]

/-- The batch maxima. -/
theorem batchMax_apply (s : FVec Ideal S32x2048 .f32) (b : Fin 32) :
    Host.reduce FloatOps.maximumf s (constant S_ .f32 0xFF800000#32) reducesTo_S32x2048_S32_d1 h_S_ (ix1 b)
      = greatest fun r : Fin 2048 => s (ix2 b r) := by
  refine (congrFun (hostReduce_maximumf_eq_multiReduction s 0xFF800000#32 reducesTo_S32x2048_S32_d1 h_S_ (by decide) (.inl rfl) rfl)
    (ix1 b)).trans ?_
  refine (Ideal.multiReduction_maximumf_single _ _ _ _ _ _).trans ?_
  rw [ofBits_neg_inf]
  unfold greatest
  refine congrArg (fun f => Finset.fold max ⊥ f Finset.univ) (funext fun r => congrArg s ?_)
  funext a
  match a with
  | ⟨0, _⟩ => rfl
  | ⟨1, _⟩ => rfl

/-- One number per batch, laid along the batch's rows. -/
theorem spread_apply (y : FVec Ideal S32 .f32) (b : Fin 32) (r : Fin 2048) :
    broadcastInDim S32x2048 ![0, 1] bcast_S32x1_S32x2048_0_1 (broadcastInDim S32x1 ![0] bcast_S32_S32x1_0 y) (ix2 b r)
      = y (ix1 b) :=
  (broadcastInDim_apply _ _ _ _ (ix2 b (0 : Fin 1)) fun a => by match a with | ⟨0, _⟩ => rfl | ⟨1, _⟩ => rfl).trans
    (broadcastInDim_apply _ _ _ _ (ix1 b) fun a => by match a with | ⟨0, _⟩ => rfl)

/-! ### The result -/

variable (x g : FVec Ideal S32x2048x1024 .f32) (w : FVec Ideal S1024x512 .f32) (u : FVec Ideal S512 .f32)

/-- The masked scores, as the reference forms them. -/
def scores : FVec Ideal S32x2048 .f32 :=
  select (cmpf .oeq (Host.sign (Host.absf (Host.reduceAdd x (constant S_ .f32 0x00000000#32)
      reducesTo_S32x2048x1024_S32x2048_d2 h_S_))) (broadcastInDim S32x2048 ![] bcast_S_S32x2048 (constant S_ .f32 0x00000000#32)))
    (broadcastInDim S32x2048 ![] bcast_S_S32x2048 (constant S_ .f32 0xCE6E6B28#32))
    (Host.dotGeneral dot_S32x2048x512_S512_S32x2048_2_0_01_n_n_n none
      (Host.tanh (Host.dotGeneral dot_S32x2048x1024_S1024x512_S32x2048x512_2_0_01_1_n_n none g w)) u)

/-- The exponentials of the scores relative to the batch's greatest. -/
def exps (s : FVec Ideal S32x2048 .f32) : FVec Ideal S32x2048 .f32 :=
  Host.exp (subf s (broadcastInDim S32x2048 ![0, 1] bcast_S32x1_S32x2048_0_1 (broadcastInDim S32x1 ![0] bcast_S32_S32x1_0
    (maximumf (broadcastInDim S32 ![] bcast_S_S32 (constant S_ .f32 0xFF800000#32))
      (Host.reduce FloatOps.maximumf s (constant S_ .f32 0xFF800000#32) reducesTo_S32x2048_S32_d1 h_S_)))))

/-- The weights: each exponential over the batch's sum. -/
def weights (e : FVec Ideal S32x2048 .f32) : FVec Ideal S32x2048 .f32 :=
  Host.divf e (broadcastInDim S32x2048 ![0, 1] bcast_S32x1_S32x2048_0_1 (broadcastInDim S32x1 ![0] bcast_S32_S32x1_0
    (Host.reduceAdd e (constant S_ .f32 0x00000000#32) reducesTo_S32x2048_S32_d1 h_S_)))

/-- A score, read. -/
theorem scores_apply (b : Fin 32) (r : Fin 2048) : scores x g w u (ix2 b r) = rowScore x g w u b r := by
  have hdot : Host.dotGeneral dot_S32x2048x512_S512_S32x2048_2_0_01_n_n_n none
      (Host.tanh (Host.dotGeneral dot_S32x2048x1024_S1024x512_S32x2048x512_2_0_01_1_n_n none g w)) u (ix2 b r)
      = ∑ p : Fin 512, u (ix1 p) * Ideal.tanh (∑ k : Fin 1024, g (ix3 b r k) * w (ix2 k p)) := by
    rw [dot_apply]
    refine Finset.sum_congr rfl fun p _ => ?_
    rw [mul_comm]
    show _ * Ideal.tanh (Host.dotGeneral _ none g w (ix3 b r p)) = _
    rw [proj_apply]
  unfold scores rowScore score
  rw [select_apply, cmpf_apply, hdot, broadcastInDim_scalar_apply, broadcastInDim_scalar_apply]
  show Scalar.select (Ideal.cmp .oeq (Ideal.sign (max (Host.reduceAdd x _ _ _ (ix2 b r)) (-(Host.reduceAdd x _ _ _ (ix2 b r)))))
    (Ideal.ofBits .f32 0x00000000#32)) maskedScore _ = _
  rw [rowSum_apply, Ideal.ofBits_zero_f32, cmp_sign_abs]

/-- An exponential, read. -/
theorem exps_apply (s : FVec Ideal S32x2048 .f32) (b : Fin 32) (r : Fin 2048) :
    exps s (ix2 b r) = Ideal.exp (s (ix2 b r) - greatest fun q : Fin 2048 => s (ix2 b q)) := by
  unfold exps
  show Ideal.exp (s (ix2 b r) - broadcastInDim S32x2048 _ _ _ (ix2 b r)) = _
  rw [spread_apply, maximumf_apply, batchMax_apply, broadcastInDim_scalar_apply]
  show Ideal.exp (s (ix2 b r) - max (FloatOps.ofBits (F := Ideal) .f32 0xFF800000#32) _) = _
  rw [ofBits_neg_inf, max_eq_right bot_le]

/-- A weight, read. -/
theorem weights_apply (e : FVec Ideal S32x2048 .f32) (b : Fin 32) (r : Fin 2048) :
    weights e (ix2 b r) = Ideal.div (e (ix2 b r)) (∑ q : Fin 2048, e (ix2 b q)) := by
  unfold weights
  rw [hostDivf_apply, spread_apply, batchSum_apply]

/-- The reference's result is the pooled sequence. -/
theorem mean_value (b : Fin 32) (d : Fin 1024) :
    Host.dotGeneral dot_S32x2048x1024_S32x2048_S32x1024_1_1_2_n_0_0 none g (weights (exps (scores x g w u))) (ix2 b d)
      = pooled x g w u b d := by
  rw [mean_apply]
  unfold pooled softmaxMean expSum
  refine Finset.sum_congr rfl fun r _ => congrArg (g (ix3 b r d) * ·) ?_
  rw [weights_apply]
  simp only [exps_apply, scores_apply]

/-! ### The run -/

variable (m : (ℓ : Loc nD τ sig) → Buf (Elt Ideal) ℓ) (ρ : Dev nD → PrngReg)

/-- The pooled sequence of a device's arguments, as contents of the result. -/
def result (c : Dev nD) : Buf (Elt Ideal) ((c : Thread nD τ).loc main_v20) :=
  fun i : S32x1024.Idx => pooled (m ((c : Thread nD τ).loc main_arg0)) (m ((c : Thread nD τ).loc main_arg1))
    (m ((c : Thread nD τ).loc main_arg2)) (m ((c : Thread nD τ).loc main_arg3)) (i 0) (i 1)

/-- The reference's run: the result holds the pooled sequence and the arguments are as before. -/
theorem run :
    θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (funext fun i => by
      obtain ⟨b, d, rfl⟩ : ∃ (b : Fin 32) (d : Fin 1024), i = ix2 b d := ⟨i 0, i 1, eq_ix2 i⟩
      exact mean_value _ _ _ _ b d), (h c).2⟩) (Value.run (F := Ideal) m ρ)

end Cert.ReferenceIdeal.Result

end
-- ==== Proof.Pre.lean ====
/-
  What the precondition gives: every entry of the score vector is a real number.

  The precondition says that the absolute value of each entry is below infinity, all entries taken together.
-/
module

public import proofs.«01_k».proof.Pre_u_finite
public import Idealize.ShloMosaic.Lib.ReduceAll
public import Idealize.ShloMosaic.Lib.ValueIdx
public import Idealize.ShloMosaic.Lib.IdealHost

@[expose] public section

noncomputable section

namespace Cert.Pre_u_finite.Meaning

open Idealize.ShloMosaic Idealize.ShloMosaic.ValueIdx
open Cert.Pre_u_finite

/-- The shape relations the precondition takes. -/
instance facts : Facts where
  bcast_S_S512 := by decide
  reducesTo_S512_S_d0 := by decide
  h_S_ := by decide

/-- The bit pattern of infinity is the greatest extended real. -/
theorem ofBits_inf : Ideal.ofBits .f32 0x7F800000#32 = ⊤ := by simp [Ideal.ofBits, Ideal.ieee]

/-- A number whose absolute value is below infinity is real. -/
theorem real_of_abs_lt (y : EReal) (h : max y (-y) < ⊤) : ∃ r : ℝ, y = r := by
  induction y using EReal.rec with
  | bot => simp at h
  | coe r => exact ⟨r, rfl⟩
  | top => simp at h

/-- The result has one index. -/
instance : Subsingleton S_.Idx := ⟨fun i j => funext fun a => a.elim0⟩

/-- The precondition makes every entry of the score vector real. -/
theorem real_of_pre (x g : FVec Ideal S32x2048x1024 .f32) (w : FVec Ideal S1024x512 .f32) (u : FVec Ideal S512 .f32)
    (h : fn (F := Ideal) x g w u = fun _ => 1#1) (p : Fin 512) : ∃ r : ℝ, u (ix1 p) = r := by
  refine real_of_abs_lt _ ?_
  have h1 := Host.reduce_andi_all _ _ _ _ _ (congrFun h ix0) (ix1 p)
  rw [cmpf_apply, broadcastInDim_scalar_apply, constant_apply] at h1
  by_contra hn
  have h0 : Ideal.cmp .olt (max (u (ix1 p)) (-(u (ix1 p)))) (Ideal.ofBits .f32 0x7F800000#32) = 1#1 := h1
  rw [ofBits_inf] at h0
  simp [Ideal.cmp, hn] at h0

end Cert.Pre_u_finite.Meaning

end
-- ==== Proof.lean ====
/-
  The proof of every claim about the fused additive attention kernel.

  The kernel's frame claims are the generated ones. The reference is host operations alone: its run gives that it keeps
  its arguments, and a program without semaphores ends with every counter at zero. The kernel and the reference both
  end with the pooled sequence of their arguments, which is the value claim.
-/
module

public import proofs.«01_k».proof.Defs
public import proofs.«01_k».proof.Proof.Gen.Kernel.Frame
public import proofs.«01_k».proof.Proof.KernelValue
public import proofs.«01_k».proof.Proof.RefValue
public import proofs.«01_k».proof.Proof.Pre
public import Idealize.ShloMosaic.Lib.Quiescent

@[expose] public section

noncomputable section

namespace Cert.Proof

open Idealize.ShloMosaic Idealize.ShloMosaic.TcCoe Idealize.SL.Sem

/-- The reference runs, keeps its arguments and leaves every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference end with the same result. -/
theorem value : Cert.algebraic_KernelIdeal_ReferenceIdeal_pre_u_finite := fun m ρ m' ρ' hpre hargs => by
  refine ⟨Cert.KernelIdeal.Result.result m, Cert.KernelIdeal.Result.run m ρ fun c p => ?_, ?_⟩
  · exact Cert.Pre_u_finite.Meaning.real_of_pre _ _ _ _ (hpre c) p
  · refine (θ_run Cert.ReferenceIdeal.defs _ _).mono (fun r h c => ⟨(h c).1.trans ?_, (h c).2⟩)
      (Cert.ReferenceIdeal.Result.run m' ρ')
    obtain ⟨e0, e1, e2, e3⟩ := hargs c
    unfold Cert.ReferenceIdeal.Result.result Cert.KernelIdeal.Result.result Cert.KernelIdeal.Result.value
    rw [e0, e1, e2, e3]

/-- Every claim. -/
theorem claim : Cert.Claim :=
  ⟨Cert.Kernel.Gen.facts, Cert.KernelIdeal.Gen.facts, Cert.ReferenceIdeal.Gen.facts, Cert.Pre_u_finite.Meaning.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, value⟩

end Cert.Proof

end
